-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_no_bias [hPre_finite_inputs_no_bias : Cert.Pre_finite_inputs_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite_inputs_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_no_bias [hPre_finite_inputs_no_bias : Cert.Pre_finite_inputs_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite_inputs_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs_no_bias [hKernelIdeal : Cert.KernelIdeal.Facts] [hPre_finite_inputs_no_bias : Cert.Pre_finite_inputs_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs_no_bias [hReferenceIdeal : Cert.ReferenceIdeal.Facts] [hPre_finite_inputs_no_bias : Cert.Pre_finite_inputs_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs_no_bias [hKernelIdeal : Cert.KernelIdeal.Facts] [hReferenceIdeal : Cert.ReferenceIdeal.Facts] [hPre_finite_inputs_no_bias : Cert.Pre_finite_inputs_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs_no_bias : Cert.Pre_finite_inputs_no_bias.Facts),
    quiescent_Kernel (hKernel := hKernel)
    ∧ quiescent_KernelIdeal (hKernelIdeal := hKernelIdeal)
    ∧ quiescent_KernelIdeal_pre_finite_inputs_no_bias (hKernelIdeal := hKernelIdeal) (hPre_finite_inputs_no_bias := hPre_finite_inputs_no_bias)
    ∧ quiescent_ReferenceIdeal (hReferenceIdeal := hReferenceIdeal)
    ∧ quiescent_ReferenceIdeal_pre_finite_inputs_no_bias (hReferenceIdeal := hReferenceIdeal) (hPre_finite_inputs_no_bias := hPre_finite_inputs_no_bias)
    ∧ preserves_Kernel_KernelIdeal
    ∧ algebraic_KernelIdeal_ReferenceIdeal_pre_finite_inputs_no_bias (hKernelIdeal := hKernelIdeal) (hReferenceIdeal := hReferenceIdeal) (hPre_finite_inputs_no_bias := hPre_finite_inputs_no_bias)
-- ==== Pre_finite_inputs_no_bias.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1 : Shape := ⟨1, ![1]⟩
abbrev S128x2 : Shape := ⟨2, ![128, 2]⟩
abbrev S2 : Shape := ⟨1, ![2]⟩
abbrev S10000x2 : Shape := ⟨2, ![10000, 2]⟩
abbrev S_ : Shape := ⟨0, ![]⟩
abbrev S10000x1 : Shape := ⟨2, ![10000, 1]⟩
abbrev S10000 : Shape := ⟨1, ![10000]⟩

class Facts : Prop where
  bcast_S_S10000x128 : S_.BroadcastsInDim S10000x128 (![] : Fin 0 → Fin S10000x128.rank)
  bcast_S_S128x128 : S_.BroadcastsInDim S128x128 (![] : Fin 0 → Fin S128x128.rank)
  bcast_S_S128 : S_.BroadcastsInDim S128 (![] : Fin 0 → Fin S128.rank)
  bcast_S_S1 : S_.BroadcastsInDim S1 (![] : Fin 0 → Fin S1.rank)
  bcast_S_S128x2 : S_.BroadcastsInDim S128x2 (![] : Fin 0 → Fin S128x2.rank)
  bcast_S_S2 : S_.BroadcastsInDim S2 (![] : Fin 0 → Fin S2.rank)
  bcast_S_S10000x2 : S_.BroadcastsInDim S10000x2 (![] : Fin 0 → Fin S10000x2.rank)
  slices_S10000x2_S10000x1_0_0 : S10000x2.Slices ![0, 0] S10000x1
  shapeCasts_S10000x1_S10000 : S10000x1.ShapeCasts S10000
  slices_S10000x2_S10000x1_0_1 : S10000x2.Slices ![0, 1] S10000x1
  bcast_S_S10000 : S_.BroadcastsInDim S10000 (![] : Fin 0 → Fin S10000.rank)

variable [Facts]

def fn_part1 {F : FTy → Type} [FloatOps F] (main_arg8 : FVec F S2 .f32) (main_arg9 : FVec F S10000x2 .f32) (main_v2 : IVec S10000x128 1) (main_v5 : IVec S128x128 1) (main_v7 : IVec S128 1) (main_v10 : IVec S1 1) (main_v13 : IVec S128x128 1) (main_v15 : IVec S128 1) (main_v16 : FVec F S128x2 .f32) (main_cst_5 : FVec F S_ .f32) : IVec S10000x128 1 × IVec S128x128 1 × IVec S128 1 × IVec S1 1 × IVec S128x128 1 × IVec S128 1 × IVec S128x2 1 × IVec S2 1 × IVec S10000x2 1 × IVec S10000 1 :=
  let main_v17 : FVec F S128x2 .f32 := broadcastInDim S128x2 ![] bcast_S_S128x2 main_cst_5
  let main_v18 : IVec S128x2 1 := cmpf .olt main_v16 main_v17
  let main_cst_6 : FVec F S_ .f32 := constant S_ .f32 0x00000000#32
  let main_v19 : FVec F S2 .f32 := broadcastInDim S2 ![] bcast_S_S2 main_cst_6
  let main_v20 : IVec S2 1 := cmpf .oeq main_arg8 main_v19
  let main_cst_7 : FVec F S_ .f32 := constant S_ .f32 0x3F800000#32
  let main_v21 : FVec F S10000x2 .f32 := broadcastInDim S10000x2 ![] bcast_S_S10000x2 main_cst_7
  let main_v22 : IVec S10000x2 1 := cmpf .olt main_arg9 main_v21
  let main_v23 : FVec F S10000x1 .f32 := (extractStridedSlice S10000x1 ![0, 0] · slices_S10000x2_S10000x1_0_0) main_arg9
  let main_v24 : FVec F S10000 .f32 := shapeCast S10000 main_v23 shapeCasts_S10000x1_S10000
  let main_v25 : FVec F S10000x1 .f32 := (extractStridedSlice S10000x1 ![0, 1] · slices_S10000x2_S10000x1_0_1) main_arg9
  let main_v26 : FVec F S10000 .f32 := shapeCast S10000 main_v25 shapeCasts_S10000x1_S10000
  let main_v27 : FVec F S10000 .f32 := maximumf main_v24 main_v26
  let main_cst_8 : FVec F S_ .f32 := constant S_ .f32 0x00000000#32
  let main_v28 : FVec F S10000 .f32 := broadcastInDim S10000 ![] bcast_S_S10000 main_cst_8
  let main_v29 : IVec S10000 1 := cmpf .ogt main_v27 main_v28
  (main_v2, main_v5, main_v7, main_v10, main_v13, main_v15, main_v18, main_v20, main_v22, main_v29)

def fn {F : FTy → Type} [FloatOps F] (main_arg0 : FVec F S10000x128 .f32) (main_arg1 : IVec S2x320000 32) (main_arg2 : FVec F S128x128 .f32) (main_arg3 : FVec F S128 .f32) (main_arg4 : FVec F S1 .f32) (main_arg5 : FVec F S128x128 .f32) (main_arg6 : FVec F S128 .f32) (main_arg7 : FVec F S128x2 .f32) (main_arg8 : FVec F S2 .f32) (main_arg9 : FVec F S10000x2 .f32) : IVec S10000x128 1 × IVec S128x128 1 × IVec S128 1 × IVec S1 1 × IVec S128x128 1 × IVec S128 1 × IVec S128x2 1 × IVec S2 1 × IVec S10000x2 1 × IVec S10000 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S128x128 .f32 := Host.absf main_arg2
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_cst_1 : FVec F S_ .f32 := constant S_ .f32 0x00000000#32
  let main_v6 : FVec F S128 .f32 := broadcastInDim S128 ![] bcast_S_S128 main_cst_1
  let main_v7 : IVec S128 1 := cmpf .oeq main_arg3 main_v6
  let main_v8 : FVec F S1 .f32 := Host.absf main_arg4
  let main_cst_2 : FVec F S_ .f32 := constant S_ .f32 0x7F800000#32
  let main_v9 : FVec F S1 .f32 := broadcastInDim S1 ![] bcast_S_S1 main_cst_2
  let main_v10 : IVec S1 1 := cmpf .olt main_v8 main_v9
  let main_v11 : FVec F S128x128 .f32 := Host.absf main_arg5
  let main_cst_3 : FVec F S_ .f32 := constant S_ .f32 0x7F800000#32
  let main_v12 : FVec F S128x128 .f32 := broadcastInDim S128x128 ![] bcast_S_S128x128 main_cst_3
  let main_v13 : IVec S128x128 1 := cmpf .olt main_v11 main_v12
  let main_cst_4 : FVec F S_ .f32 := constant S_ .f32 0x00000000#32
  let main_v14 : FVec F S128 .f32 := broadcastInDim S128 ![] bcast_S_S128 main_cst_4
  let main_v15 : IVec S128 1 := cmpf .oeq main_arg6 main_v14
  let main_v16 : FVec F S128x2 .f32 := Host.absf main_arg7
  let main_cst_5 : FVec F S_ .f32 := constant S_ .f32 0x7F800000#32
  fn_part1 (F := F) main_arg8 main_arg9 main_v2 main_v5 main_v7 main_v10 main_v13 main_v15 main_v16 main_cst_5
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1 : Shape := ⟨1, ![1]⟩
abbrev S128x2 : Shape := ⟨2, ![128, 2]⟩
abbrev S2 : Shape := ⟨1, ![2]⟩
abbrev S10000x2 : Shape := ⟨2, ![10000, 2]⟩
abbrev S2x10000 : Shape := ⟨2, ![2, 10000]⟩
abbrev S1x1 : Shape := ⟨2, ![1, 1]⟩
abbrev S5120x128 : Shape := ⟨2, ![5120, 128]⟩
abbrev S2x5120 : Shape := ⟨2, ![2, 5120]⟩
abbrev S1x5120 : Shape := ⟨2, ![1, 5120]⟩

abbrev nBuf : Space → Nat
  | .hbm => 14
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S10000x2, .f32⟩
  | .hbm, ⟨10, _⟩ => ⟨S2x10000, .f32⟩
  | .hbm, ⟨11, _⟩ => ⟨S1x1, .f32⟩
  | .hbm, ⟨12, _⟩ => ⟨S2x10000, .f32⟩
  | .hbm, ⟨13, _⟩ => ⟨S10000x2, .f32⟩
  | .local _ .vmem, ⟨0, _⟩ => ⟨S5120x128, .f32⟩
  | .local _ .vmem, ⟨1, _⟩ => ⟨S5120x128, .f32⟩
  | .local _ .vmem, ⟨2, _⟩ => ⟨S128x128, .f32⟩
  | .local _ .vmem, ⟨3, _⟩ => ⟨S1x1, .f32⟩
  | .local _ .vmem, ⟨4, _⟩ => ⟨S128x128, .f32⟩
  | .local _ .vmem, ⟨5, _⟩ => ⟨S128x2, .f32⟩
  | .local _ .vmem, ⟨6, _⟩ => ⟨S2x5120, .f32⟩
  | .local _ .vmem, ⟨7, _⟩ => ⟨S2x5120, .f32⟩
  | .local _ .vmem, ⟨8, _⟩ => ⟨S2x5120, .f32⟩
  | .local _ .vmem, ⟨9, _⟩ => ⟨S2x5120, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1 : Shape := ⟨1, ![1]⟩
abbrev S128x2 : Shape := ⟨2, ![128, 2]⟩
abbrev S2 : Shape := ⟨1, ![2]⟩
abbrev S10000x2 : Shape := ⟨2, ![10000, 2]⟩
abbrev S1x128 : Shape := ⟨2, ![1, 128]⟩
abbrev S_ : Shape := ⟨0, ![]⟩
abbrev S1x1 : Shape := ⟨2, ![1, 1]⟩
abbrev S1x2 : Shape := ⟨2, ![1, 2]⟩
abbrev S10000 : Shape := ⟨1, ![10000]⟩
abbrev S10000x1 : Shape := ⟨2, ![10000, 1]⟩

abbrev nBuf : Space → Nat
  | .hbm => 64
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S10000x2, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .i1⟩
  | .hbm, ⟨17, _⟩ => ⟨S1x1, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S10000x2, .f32⟩
  | .hbm, ⟨26, _⟩ => ⟨S1x2, .f32⟩
  | .hbm, ⟨27, _⟩ => ⟨S10000x2, .f32⟩
  | .hbm, ⟨28, _⟩ => ⟨S10000x2, .f32⟩
  | .hbm, ⟨29, _⟩ => ⟨S10000x2, .f32⟩
  | .hbm, ⟨30, _⟩ => ⟨S10000x2, .f32⟩
  | .hbm, ⟨31, _⟩ => ⟨S10000x2, .f32⟩
  | .hbm, ⟨32, _⟩ => ⟨S10000x2, .f32⟩
  | .hbm, ⟨33, _⟩ => ⟨S10000x2, .f32⟩
  | .hbm, ⟨34, _⟩ => ⟨S_, .f32⟩
  | .hbm, ⟨35, _⟩ => ⟨S10000x2, .f32⟩
  | .hbm, ⟨36, _⟩ => ⟨S10000x2, .f32⟩
  | .hbm, ⟨37, _⟩ => ⟨S_, .f32⟩
  | .hbm, ⟨38, _⟩ => ⟨S10000, .f32⟩
  | .hbm, ⟨39, _⟩ => ⟨S_, .f32⟩
  | .hbm, ⟨40, _⟩ => ⟨S10000, .f32⟩
  | .hbm, ⟨41, _⟩ => ⟨S10000, .f32⟩
  | .hbm, ⟨42, _⟩ => ⟨S10000x1, .f32⟩
  | .hbm, ⟨43, _⟩ => ⟨S10000x2, .f32⟩
  | .hbm, ⟨44, _⟩ => ⟨S10000x2, .f32⟩
  | .hbm, ⟨45, _⟩ => ⟨S10000x2, .f32⟩
  | .hbm, ⟨46, _⟩ => ⟨S_, .f32⟩
  | .hbm, ⟨47, _⟩ => ⟨S10000, .f32⟩
  | .hbm, ⟨48, _⟩ => ⟨S10000x1, .f32⟩
  | .hbm, ⟨49, _⟩ => ⟨S10000x2, .f32⟩
  | .hbm, ⟨50, _⟩ => ⟨S10000x2, .f32⟩
  | .hbm, ⟨51, _⟩ => ⟨S10000x2, .i32⟩
  | .hbm, ⟨52, _⟩ => ⟨S_, .f32⟩
  | .hbm, ⟨53, _⟩ => ⟨S_, .i32⟩
  | .hbm, ⟨54, _⟩ => ⟨S10000, .f32⟩
  | .hbm, ⟨55, _⟩ => ⟨S10000, .i32⟩
  | .hbm, ⟨56, _⟩ => ⟨S10000x1, .i32⟩
  | .hbm, ⟨57, _⟩ => ⟨S1x2, .i32⟩
  | .hbm, ⟨58, _⟩ => ⟨S10000x2, .i32⟩
  | .hbm, ⟨59, _⟩ => ⟨S10000x2, .i32⟩
  | .hbm, ⟨60, _⟩ => ⟨S10000x2, .i1⟩
  | .hbm, ⟨61, _⟩ => ⟨S10000x2, .f32⟩
  | .hbm, ⟨62, _⟩ => ⟨S10000x2, .f32⟩
  | .hbm, ⟨63, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call1_v0 : Ref sig .tc := ⟨.hbm, 51, rfl⟩
abbrev main_call1_cst : Ref sig .tc := ⟨.hbm, 52, rfl⟩
abbrev main_call1_c : Ref sig .tc := ⟨.hbm, 53, rfl⟩
abbrev main_call1_v1_0 : Ref sig .tc := ⟨.hbm, 54, rfl⟩
abbrev main_v36 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Proof.WholeAccess.lean ====
/-
  Loads and stores that touch a whole memory reference: the kernel body reads each of its buffers in one load and
  writes its result in one store, always at offset zero and at the buffer's own size. The two facts below say what
  such an access does through ANY view, so that no proof depends on which staging buffer a grid point is on.
-/
module

public import Idealize.ShloMosaic.Lib.Tactic
public import Idealize.ShloMosaic.Lib.Pipeline.Value

@[expose] public section

noncomputable section

namespace Cert.WholeAccess

open Idealize.ShloMosaic

variable {sig : RefSig} {κ : Kind} {sp : Space} {s : Shape} {e : EltTy} {Val : EltTy → Type}

/-- The rectangle at offset zero and of full size keeps every index where it is. -/
theorem full_emb {off : Fin s.rank → ℕ} (h : off = fun _ => 0) (inb : ∀ a, off a + s.size a ≤ s.size a) (j : s.Idx) :
    (Rect.unit off s.size inb).emb j = j := by
  subst h; exact Rect.emb_whole_apply _ j

/-- A load of a whole reference returns all it holds. -/
theorem load_full (v : View sig κ sp s e) {off : Fin s.rank → ℕ} (h : off = fun _ => 0)
    (inb : ∀ a, off a + s.size a ≤ s.size a) (f : v.ty.Contents Val) :
    v.readAt Val (Rect.unit off s.size inb).toLoadRect f = v.read Val f :=
  funext fun j => congrArg (v.read Val f) (full_emb h inb j)

/-- After an unmasked store over a whole reference it holds what was stored. -/
theorem store_full (v : View sig κ sp s e) {off : Fin s.rank → ℕ} (h : off = fun _ => 0)
    (inb : ∀ a, off a + s.size a ≤ s.size a) (f : v.ty.Contents Val) (w : s.Idx → Val e) :
    v.read Val ((v.slice (Rect.unit off s.size inb)).write Val f w Finset.univ) = w := by
  funext j
  have hj := congrFun (View.read_write_univ (v := v.slice (Rect.unit off s.size inb)) f w) j
  have he : (v.slice (Rect.unit off s.size inb)).emb j = v.emb j := congrArg v.emb (full_emb h inb j)
  rw [View.read_apply] at hj ⊢
  rw [he] at hj
  exact hj

/-- The zero offsets of a rank-two access, as they are written. -/
theorem zero2 : (![0, 0] : Fin 2 → ℕ) = fun _ => 0 := by funext a; fin_cases a <;> rfl

end Cert.WholeAccess

end
-- ==== Proof.KernelFrame.lean ====
/-
  The kernel as compiled, over machine words: it runs to the end from every launch, its arguments end as they
  started, and every semaphore counter ends at zero. Nothing is said of the values: what each staging buffer holds
  is left open at every grid point.
-/
module

public import proofs.«01_k».proof.Defs
public import proofs.«01_k».proof.Proof.Gen.Kernel.Skeleton
public import proofs.«01_k».proof.Proof.Gen.Kernel.Frame
public import proofs.«01_k».proof.Proof.WholeAccess

@[expose] public section

set_option maxRecDepth 16384

noncomputable section

namespace Cert.KernelFrame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeAccess
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body on any seven buffers: it loads six of them whole, stores its result over the seventh whole, and
    leaves the six as they were. -/
theorem body_runs (c : Dev nD) (i : grid0.Coords)
    (a1 : Memref sig .tc .vmem S5120x128 .f32) (h1 : a1.IsWhole) (a2 : Memref sig .tc .vmem S128x128 .f32) (h2 : a2.IsWhole)
    (a3 : Memref sig .tc .vmem S1x1 .f32) (h3 : a3.IsWhole) (a4 : Memref sig .tc .vmem S128x128 .f32) (h4 : a4.IsWhole)
    (a5 : Memref sig .tc .vmem S128x2 .f32) (h5 : a5.IsWhole) (a6 : Memref sig .tc .vmem S2x5120 .f32) (h6 : a6.IsWhole)
    (a7 : Memref sig .tc .vmem S2x5120 .f32) (h7 : a7.IsWhole)
    (X1 : S5120x128.Idx → Elt F .f32) (X2 X4 : S128x128.Idx → Elt F .f32) (X3 : S1x1.Idx → Elt F .f32)
    (X5 : S128x2.Idx → Elt F .f32) (X6 X7 : S2x5120.Idx → Elt F .f32) (K : PUnit → sProp 𝕄) :
    iprop((owns (c : Thread nD τ) a1 fullShare X1 ∗ owns (c : Thread nD τ) a2 fullShare X2 ∗ owns (c : Thread nD τ) a3 fullShare X3
        ∗ owns (c : Thread nD τ) a4 fullShare X4 ∗ owns (c : Thread nD τ) a5 fullShare X5 ∗ owns (c : Thread nD τ) a6 fullShare X6
        ∗ owns (c : Thread nD τ) a7 fullShare X7)
      ∗ (iprop(owns (c : Thread nD τ) a1 fullShare X1 ∗ owns (c : Thread nD τ) a2 fullShare X2 ∗ owns (c : Thread nD τ) a3 fullShare X3
        ∗ owns (c : Thread nD τ) a4 fullShare X4 ∗ owns (c : Thread nD τ) a5 fullShare X5 ∗ owns (c : Thread nD τ) a6 fullShare X6
        ∗ owns (c : Thread nD τ) a7 fullShare (k0_pay1 X1 X2 X3 X4 X5 X6)) -∗ K ⟨⟩))
      ⊢ wp frame (wpE (defs₀ (F := F)) Variants.none c none) Set.univ
          (cc0__mlp_mask_kernel i a1 h1 a2 h2 a3 h3 a4 h4 a5 h5 a6 h6 a7 h7) K := by
  simp only [cc0__mlp_mask_kernel_eq_skeleton]; unfold cc0__mlp_mask_kernel_skel
  simp only [Prog.lift, Prog.bind_op, Prog.bind_ret]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  sl_steps
  iapply Hk
  rw [load_full _ zero2, load_full _ zero2, load_full _ zero2, load_full _ zero2, load_full _ zero2, load_full _ zero2,
    e1, e2, e3, e4, e5, e6]
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iexists _; isplitr
  swap
  · iexact H7
  ipureintro; exact store_full a7.view zero2 _ f7 _

/-- Proof data that name no contents: the arrays as the region finds them, every buffer left open. -/
def dats (_ : Fin 1) (c : Dev nD) : Dat τ (Elt F) Unit ℕ (UR sig nD τ) ℕ cfg0 c where
  A w := V m c (Pipeline.arrRef spec0 w)
  after w _ := fun _ => Classical.arbitrary _
  Φ _ := Pipeline.ΦA spec0 c
  q _ := fullShare
  owed _ := 0

/-- Every grid point runs, whatever its buffers hold. -/
theorem point_runs (c : Dev nD) :
    BodyObligationLoose (dats m 0 c) (defs₀ (F := F)) Variants.none () Set.univ (fun _ => true) := fun t => by
  rw [bigSep_W0]
  beta_reduce
  dsimp only
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩, ⟨%X5, H5⟩, ⟨%X6, H6⟩⟩
  iapply (body_runs (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    X0 X1 X3 X2 X4 X5 X6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

/-- The one buffer the host writes after the region. -/
abbrev lateWrites : Finset (Ref sig .tc) := {main_v3}

/-- The host's last operation writes nothing else. -/
theorem late_writes : ∀ ops ∈ ([hostOps1] : List (List (HloOp τ sig (Elt F)))), ∀ op ∈ ops, ∀ b : Ref sig .tc,
    Proc.devRef .tc b ∈ op.writes → b ∈ lateWrites := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  by_contra hne
  exact StableHlo.devRef_ne_of_ne (fun e => hne (by rw [e]; exact Finset.mem_singleton_self _)) hb

set_option backward.isDefEq.respectTransparency.types false in
/-- The whole program runs; its arrays end at contents the windows allow, every other buffer but the late write as
    the region found it, every counter at zero. -/
theorem run_main : θ_run defs (onTc (τ := τ) (main (F := F))) (s₀ m ρ) (fun r =>
    Pipeline.RDat.FramePostR cfg0 (fun c => (dats m 0 c).toRForget fun _ => true) lateWrites (V m) r ∧ r.2.sem = fun _ => 0) :=
  Pipeline.θ_run_frame_around_T_forget cfgs (dats m) (0 : Fin 1) launch0 defs₀ Variants.none (fun _ => true) lateWrites m ρ main
    (hbody := point_runs m) (hshare := fun c => (dats m 0 c).share_full fun _ => rfl) (howed := fun _ _ => rfl)
    (V₀ := V0 m) (opss := [hostOps1]) (hsub := sfx_sub) (hfresh := sfx_fresh) (hkeep := sfx_keeps) (hT := late_writes)
    (hmain := hmain m Variants.none) (hA := fun _ _ => rfl) (hΦ := fun _ _ => rfl) (Q' := _)

/-- An input array ends at the contents it started with: no window writes it. -/
theorem input_kept {r : PUnit × MemSt nD τ sig (Elt F)} {c : Dev nD}
    (h : ∀ w, ((dats m 0 c).toRForget fun _ => true).ArrAt w cfg0.N (r.2.mem ((cfg0.win w).arr.view.loc (c.tc : Thread nD τ))))
    (w : Fin 7) (hin : (cfg0.win w).isOut = false) :
    r.2.mem ((cfg0.win w).arr.view.loc (c.tc : Thread nD τ)) = V m c (Pipeline.arrRef spec0 w) := by
  exact (congrFun (((dats m 0 c).toRForget fun _ => true).ArrAt_in w hin cfg0.N) _).mp (h w)

/-- A buffer no window stages and the host does not write late is one of those the run leaves alone. -/
theorem spare {b : Ref sig .tc} (h₁ : b.isScoped = false) (h₂ : ∀ w, (spec0 w).arr.view.ref ≠ b) (h₃ : b ∉ lateWrites) :
    b ∈ Pipeline.restRefs sig spec0 \ lateWrites :=
  Finset.mem_sdiff.mpr ⟨Pipeline.mem_restRefs_of b h₁ h₂, h₃⟩

/-- The compiled kernel's frame: it runs, its arguments end unchanged, every counter ends at zero. -/
theorem quiescent : Cert.quiescent_Kernel := fun m ρ _ =>
  (θ_run defs _ _).mono (fun r h => ⟨fun c =>
    ⟨(input_kept m (h.1 c).1 0 rfl).trans (V_main_arg0 m c),
      ((h.1 c).2 main_arg1 (spare (by decide) (by decide) (by decide))).trans (V_main_arg1 m c),
      (input_kept m (h.1 c).1 1 rfl).trans (V_main_arg2 m c),
      ((h.1 c).2 main_arg3 (spare (by decide) (by decide) (by decide))).trans (V_main_arg3 m c),
      ((h.1 c).2 main_arg4 (spare (by decide) (by decide) (by decide))).trans (V_main_arg4 m c),
      (input_kept m (h.1 c).1 3 rfl).trans (V_main_arg5 m c),
      ((h.1 c).2 main_arg6 (spare (by decide) (by decide) (by decide))).trans (V_main_arg6 m c),
      (input_kept m (h.1 c).1 4 rfl).trans (V_main_arg7 m c),
      ((h.1 c).2 main_arg8 (spare (by decide) (by decide) (by decide))).trans (V_main_arg8 m c),
      ((h.1 c).2 main_arg9 (spare (by decide) (by decide) (by decide))).trans (V_main_arg9 m c)⟩, h.2⟩) (run_main m ρ)

end Cert.KernelFrame

end
-- ==== Proof.RowMath.lean ====
/-
  The mathematics of one row, over the extended reals: a row's score for a class, why a score never reaches +∞, and
  what softmax, the greatest place and the straight-through sum make of two scores. No program is mentioned.
-/
module

public import Idealize.ShloMosaic.PureOps.Ideal

@[expose] public section

noncomputable section

namespace Cert.RowMath

open Idealize.ShloMosaic

/-! ## Finite values -/

/-- A value that is a real number. -/
def Finite (x : EReal) : Prop := ∃ r : ℝ, x = (r : EReal)

theorem Finite.coe (r : ℝ) : Finite (r : EReal) := ⟨r, rfl⟩

theorem Finite.zero : Finite 0 := ⟨0, rfl⟩

theorem Finite.add {x y : EReal} (hx : Finite x) (hy : Finite y) : Finite (x + y) := by
  obtain ⟨r, rfl⟩ := hx
  obtain ⟨s, rfl⟩ := hy
  exact ⟨r + s, (EReal.coe_add r s).symm⟩

theorem Finite.mul {x y : EReal} (hx : Finite x) (hy : Finite y) : Finite (x * y) := by
  obtain ⟨r, rfl⟩ := hx
  obtain ⟨s, rfl⟩ := hy
  exact ⟨r * s, (EReal.coe_mul r s).symm⟩

theorem Finite.sum {ι : Type} (s : Finset ι) (f : ι → EReal) (h : ∀ i, Finite (f i)) : Finite (∑ i ∈ s, f i) := by
  classical
  induction s using Finset.induction_on with
  | empty => simpa using Finite.zero
  | insert a t ha ih => rw [Finset.sum_insert ha]; exact (h a).add ih

theorem Finite.ne_top {x : EReal} (h : Finite x) : x ≠ ⊤ := by
  obtain ⟨r, rfl⟩ := h; exact EReal.coe_ne_top r

theorem Finite.ne_bot {x : EReal} (h : Finite x) : x ≠ ⊥ := by
  obtain ⟨r, rfl⟩ := h; exact EReal.coe_ne_bot r

/-- A value whose magnitude is below +∞ is a real number. -/
theorem Finite.of_abs {x : EReal} (h : max x (-x) < ⊤) : Finite x := by
  induction x using EReal.rec with
  | bot => simp at h
  | top => simp at h
  | coe r => exact ⟨r, rfl⟩

/-- Adding a finite value and taking it away again changes nothing. -/
theorem sub_add_of_finite {y : EReal} (h : Finite y) (z : ℝ) : ((z : EReal) - y) + y = z := by
  obtain ⟨r, rfl⟩ := h
  rw [← EReal.coe_sub, ← EReal.coe_add, sub_add_cancel]

/-! ## The score -/

/-- A layer's unit `k` on one row. -/
def unit {n p : Nat} (h : Fin n → EReal) (W : Fin n → Fin p → EReal) (b : Fin p → EReal) (k : Fin p) : EReal :=
  ∑ i, h i * W i k + b k

/-- PReLU of one value. -/
def bend (a h : EReal) : EReal := if 0 ≤ h then h else a * h

/-- The noise of one draw. -/
def noise (u : EReal) : EReal := -Ideal.log (-Ideal.log u)

/-- A row's class score before the noise: two layers with a PReLU between them, then the class weights. -/
def logit (x : Fin 128 → EReal) (W1 : Fin 128 → Fin 128 → EReal) (b1 : Fin 128 → EReal) (a : EReal)
    (W2 : Fin 128 → Fin 128 → EReal) (b2 : Fin 128 → EReal) (Wc : Fin 128 → Fin 2 → EReal) (bc : Fin 2 → EReal) (k : Fin 2) : EReal :=
  unit (unit (fun i => bend a (unit x W1 b1 i)) W2 b2) Wc bc k

theorem unit_finite {n p : Nat} {h : Fin n → EReal} {W : Fin n → Fin p → EReal} {b : Fin p → EReal} (hh : ∀ i, Finite (h i))
    (hW : ∀ i k, Finite (W i k)) (hb : ∀ k, Finite (b k)) (k : Fin p) : Finite (unit h W b k) :=
  (Finite.sum _ _ fun i => (hh i).mul (hW i k)).add (hb k)

theorem bend_finite {a h : EReal} (ha : Finite a) (hh : Finite h) : Finite (bend a h) := by
  unfold bend
  split
  · exact hh
  · exact ha.mul hh

/-- Finite arguments give a finite score. -/
theorem logit_finite {x : Fin 128 → EReal} {W1 : Fin 128 → Fin 128 → EReal} {b1 : Fin 128 → EReal} {a : EReal}
    {W2 : Fin 128 → Fin 128 → EReal} {b2 : Fin 128 → EReal} {Wc : Fin 128 → Fin 2 → EReal} {bc : Fin 2 → EReal}
    (hx : ∀ i, Finite (x i)) (h1 : ∀ i k, Finite (W1 i k)) (hb1 : ∀ k, Finite (b1 k)) (ha : Finite a)
    (h2 : ∀ i k, Finite (W2 i k)) (hb2 : ∀ k, Finite (b2 k)) (hc : ∀ i k, Finite (Wc i k)) (hbc : ∀ k, Finite (bc k)) (k : Fin 2) :
    Finite (logit x W1 b1 a W2 b2 Wc bc k) :=
  unit_finite (unit_finite (fun i => bend_finite ha (unit_finite hx h1 hb1 i)) h2 hb2) hc hbc k

/-- A draw below one never gives noise +∞. -/
theorem noise_ne_top {u : EReal} (h : u < 1) : noise u ≠ ⊤ := by
  unfold noise
  induction u using EReal.rec with
  | bot => simp
  | top => simp at h
  | coe r =>
    have hr : r < 1 := by exact_mod_cast h
    rw [Ideal.log_coe]
    split
    · simp
    · rename_i h0
      have hl : Real.log r < 0 := Real.log_neg (not_le.mp h0) hr
      rw [← EReal.coe_neg, Ideal.log_coe, if_neg (by linarith), ← EReal.coe_neg]
      exact EReal.coe_ne_top _

/-- A draw strictly between zero and one gives finite noise. -/
theorem noise_finite {u : EReal} (h : u < 1) (h0 : 0 < u) : Finite (noise u) := by
  unfold noise
  induction u using EReal.rec with
  | bot => simp at h0
  | top => simp at h
  | coe r =>
    have hr : r < 1 := by exact_mod_cast h
    have hr0 : 0 < r := by exact_mod_cast h0
    have hl : Real.log r < 0 := Real.log_neg hr0 hr
    rw [Ideal.log_coe, if_neg (by linarith), ← EReal.coe_neg, Ideal.log_coe, if_neg (by linarith), ← EReal.coe_neg]
    exact Finite.coe _

theorem add_ne_top {x y : EReal} (hx : Finite x) (hy : y ≠ ⊤) : x + y ≠ ⊤ := by
  obtain ⟨r, rfl⟩ := hx
  induction y using EReal.rec with
  | bot => simp
  | top => exact absurd rfl hy
  | coe s => rw [← EReal.coe_add]; exact EReal.coe_ne_top _

/-! ## Softmax of two scores -/

/-- The weight of score `s` where the greatest is `M`. -/
def weight (M s : EReal) : EReal := Ideal.exp (s - M)

/-- A weight below a finite greatest is a real number, not negative. -/
theorem weight_real (M : ℝ) {s : EReal} (hs : s ≠ ⊤) : ∃ r : ℝ, 0 ≤ r ∧ weight M s = (r : EReal) := by
  unfold weight
  induction s using EReal.rec with
  | bot => exact ⟨0, le_refl _, by simp⟩
  | top => exact absurd rfl hs
  | coe r => exact ⟨Real.exp (r - M), (Real.exp_pos _).le, by rw [← EReal.coe_sub, Ideal.exp_coe]⟩

/-- The weight of the greatest is one. -/
theorem weight_self (M : ℝ) : weight M M = 1 := by
  unfold weight; rw [← EReal.coe_sub, Ideal.exp_coe, sub_self, Real.exp_zero, EReal.coe_one]

/-- Weights order as scores do. -/
theorem weight_le_weight (M : ℝ) {s t : EReal} (hs : s ≠ ⊤) (ht : t ≠ ⊤) : weight M s ≤ weight M t ↔ s ≤ t := by
  unfold weight
  induction s using EReal.rec with
  | top => exact absurd rfl hs
  | bot =>
    induction t using EReal.rec with
    | top => exact absurd rfl ht
    | bot => simp
    | coe q =>
      rw [EReal.bot_sub, Ideal.exp_bot, ← EReal.coe_sub, Ideal.exp_coe]
      exact ⟨fun _ => bot_le, fun _ => by exact_mod_cast (Real.exp_pos _).le⟩
  | coe r =>
    induction t using EReal.rec with
    | top => exact absurd rfl ht
    | bot =>
      rw [EReal.bot_sub, Ideal.exp_bot, ← EReal.coe_sub, Ideal.exp_coe]
      refine ⟨fun h => absurd h (not_le.mpr ?_), fun h => absurd h (not_le.mpr (EReal.bot_lt_coe r))⟩
      exact_mod_cast Real.exp_pos _
    | coe q =>
      rw [← EReal.coe_sub, ← EReal.coe_sub, Ideal.exp_coe, Ideal.exp_coe, EReal.coe_le_coe_iff, EReal.coe_le_coe_iff, Real.exp_le_exp]
      exact sub_le_sub_iff_right M

/-- The two probabilities of two scores. -/
def prob (s : Fin 2 → EReal) (k : Fin 2) : EReal :=
  Ideal.div (weight (max (s 0) (s 1)) (s k)) (weight (max (s 0) (s 1)) (s 0) + weight (max (s 0) (s 1)) (s 1))

/-- Neither score +∞ and one of them finite: both probabilities are finite, and order as the scores do. -/
theorem prob_facts {s : Fin 2 → EReal} (ht : ∀ k, s k ≠ ⊤) (hf : ∃ k, Finite (s k)) :
    (∀ k, Finite (prob s k)) ∧ (prob s 1 ≤ prob s 0 ↔ s 1 ≤ s 0) := by
  obtain ⟨M, hM⟩ : Finite (max (s 0) (s 1)) := by
    have h0 := ht 0
    have h1 := ht 1
    obtain ⟨k, r, hk⟩ := hf
    rcases le_total (s 0) (s 1) with h | h
    · rw [max_eq_right h]
      induction hs : s 1 using EReal.rec with
      | top => exact absurd hs h1
      | coe q => exact Finite.coe q
      | bot =>
        have : s 0 = ⊥ := le_bot_iff.mp (hs ▸ h)
        fin_cases k <;> simp_all
    · rw [max_eq_left h]
      induction hs : s 0 using EReal.rec with
      | top => exact absurd hs h0
      | coe q => exact Finite.coe q
      | bot =>
        have : s 1 = ⊥ := le_bot_iff.mp (hs ▸ h)
        fin_cases k <;> simp_all
  unfold prob
  rw [hM]
  obtain ⟨r0, p0, e0⟩ := weight_real M (ht 0)
  obtain ⟨r1, p1, e1⟩ := weight_real M (ht 1)
  have hpos : 0 < r0 + r1 := by
    rcases le_total (s 0) (s 1) with h | h
    · rw [max_eq_right h] at hM
      have : (r1 : EReal) = 1 := by rw [← e1, hM, weight_self]
      have : r1 = 1 := by exact_mod_cast this
      linarith
    · rw [max_eq_left h] at hM
      have : (r0 : EReal) = 1 := by rw [← e0, hM, weight_self]
      have : r0 = 1 := by exact_mod_cast this
      linarith
  have hdiv : ∀ r : ℝ, Ideal.div (r : EReal) ((r0 : EReal) + (r1 : EReal)) = ((r / (r0 + r1) : ℝ) : EReal) := fun r => by
    rw [← EReal.coe_add, Ideal.div_coe hpos.ne', ← EReal.coe_mul, mul_one_div]
  refine ⟨fun k => ?_, ?_⟩
  · obtain ⟨r, _, e⟩ := weight_real M (ht k)
    rw [e0, e1, e, hdiv]
    exact Finite.coe _
  · rw [← weight_le_weight M (ht 1) (ht 0), e0, e1, hdiv, hdiv, EReal.coe_le_coe_iff, EReal.coe_le_coe_iff]
    exact div_le_div_iff_of_pos_right hpos

/-- The class picked: the first where the scores tie. -/
def pick (s : Fin 2 → EReal) : Fin 2 := if s 1 ≤ s 0 then 0 else 1

/-- One at the class picked, zero at the other. -/
def hot (s : Fin 2 → EReal) (k : Fin 2) : ℝ := if pick s = k then 1 else 0

/-- The straight-through sum over the probabilities is the one-hot row of the scores themselves. -/
theorem straight_eq {s : Fin 2 → EReal} (ht : ∀ k, s k ≠ ⊤) (hf : ∃ k, Finite (s k)) (k : Fin 2) :
    ((hot (prob s) k : ℝ) : EReal) - prob s k + prob s k = hot s k := by
  obtain ⟨hp, ho⟩ := prob_facts ht hf
  rw [sub_add_of_finite (hp k)]
  unfold hot pick
  simp only [ho]

end Cert.RowMath

end
-- ==== Proof.Inputs.lean ====
/-
  What the precondition says of the arguments, element by element: the features and the parameters finite, the biases
  zero, every noise below one, and of the two noises of a row one at least positive.
-/
module

public import proofs.«01_k».proof.Proof.Gen.Pre_finite_inputs_no_bias
public import proofs.«01_k».proof.Proof.RowMath
public import Idealize.ShloMosaic.Lib.Pipeline.ValueKit

@[expose] public section

set_option maxRecDepth 16384

noncomputable section

namespace Cert.Inputs

open Cert.Pre_finite_inputs_no_bias Cert.Pre_finite_inputs_no_bias.Gen Cert.RowMath
open Idealize.ShloMosaic

/-- A truth value that is the word one is true. -/
theorem of_word {p : Prop} [Decidable p] (h : BitVec.ofBool (decide p) = 1#1) : p := by
  by_contra hp
  rw [decide_eq_false hp] at h
  exact absurd h (by decide)

theorem inf_eq : Ideal.ofBits FTy.f32 0x7F800000#32 = ⊤ := by
  simp [Ideal.ofBits, Ideal.ieee]

theorem zero_eq : Ideal.ofBits FTy.f32 0x00000000#32 = 0 := by
  simp [Ideal.ofBits, Ideal.ieee]

theorem one_eq : Ideal.ofBits FTy.f32 0x3F800000#32 = 1 := by
  simp [Ideal.ofBits, Ideal.ieee]
  rw [← EReal.coe_mul, ← EReal.coe_one]
  norm_num

/-- An array whose absolute values are all below infinity is finite everywhere. -/
theorem finite_of {s : Shape} (h : S_.BroadcastsInDim s (![] : Fin 0 → Fin s.rank)) (v : FVec Ideal s .f32)
    (hv : cmpf .olt (Host.absf v) (broadcastInDim s ![] h (constant S_ .f32 0x7F800000#32)) = fun _ => 1#1) (i : s.Idx) : Finite (v i) := by
  have h1 : BitVec.ofBool (decide (max (v i) (-(v i)) < Ideal.ofBits FTy.f32 0x7F800000#32)) = 1#1 := congrFun hv i
  rw [inf_eq] at h1
  exact Finite.of_abs (of_word h1)

/-- An array compared equal to zero everywhere is zero. -/
theorem zero_of {s : Shape} (h : S_.BroadcastsInDim s (![] : Fin 0 → Fin s.rank)) (v : FVec Ideal s .f32)
    (hv : cmpf .oeq v (broadcastInDim s ![] h (constant S_ .f32 0x00000000#32)) = fun _ => 1#1) : v = fun _ => (0 : EReal) := by
  funext i
  have h1 : BitVec.ofBool (decide (v i = Ideal.ofBits FTy.f32 0x00000000#32)) = 1#1 := congrFun hv i
  rw [zero_eq] at h1
  exact of_word h1

/-- An array compared below one everywhere is. -/
theorem below_of {s : Shape} (h : S_.BroadcastsInDim s (![] : Fin 0 → Fin s.rank)) (v : FVec Ideal s .f32)
    (hv : cmpf .olt v (broadcastInDim s ![] h (constant S_ .f32 0x3F800000#32)) = fun _ => 1#1) (i : s.Idx) : v i < (1 : EReal) := by
  have h1 : BitVec.ofBool (decide (v i < Ideal.ofBits FTy.f32 0x3F800000#32)) = 1#1 := congrFun hv i
  rw [one_eq] at h1
  exact of_word h1

/-- The greater of a row's two noises is positive. -/
theorem positive_of (u : FVec Ideal S10000x2 .f32)
    (hu : cmpf .ogt (maximumf (shapeCast S10000 (extractStridedSlice S10000x1 ![0, 0] u slices_S10000x2_S10000x1_0_0) shapeCasts_S10000x1_S10000)
        (shapeCast S10000 (extractStridedSlice S10000x1 ![0, 1] u slices_S10000x2_S10000x1_0_1) shapeCasts_S10000x1_S10000))
      (broadcastInDim S10000 ![] bcast_S_S10000 (constant S_ .f32 0x00000000#32)) = fun _ => 1#1) (i : Fin 10000) :
    ∃ k : Fin 2, (0 : EReal) < u (ix2 i k) := by
  have h1 := congrFun hu (ix1 i)
  have h2 : BitVec.ofBool (decide ((0 : EReal) < max (u (ix2 i 0)) (u (ix2 i 1)))) = 1#1 := by
    rw [← h1]
    pointwise
  rcases lt_max_iff.mp (of_word h2) with h | h
  · exact ⟨0, h⟩
  · exact ⟨1, h⟩

end Cert.Inputs

end
-- ==== Proof.KernelIdealBody.lean ====
/-
  The kernel body over exact numbers (and any other float values): one grid point's loads and its one store, on any
  seven buffers.
-/
module

public import proofs.«01_k».proof.Defs
public import proofs.«01_k».proof.Proof.Gen.KernelIdeal.Skeleton
public import proofs.«01_k».proof.Proof.Gen.KernelIdeal.Frame
public import proofs.«01_k».proof.Proof.WholeAccess

@[expose] public section

set_option maxRecDepth 16384

noncomputable section

namespace Cert.KernelIdealBody

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeAccess

variable {F : FTy → Type} [FloatOps F]

local notation "𝕄" => MT nD τ sig Unit (Elt F) ℕ (UR sig nD τ) ℕ

/-- The kernel body on any seven buffers: it loads six of them whole, stores its result over the seventh whole, and
    leaves the six as they were. -/
theorem body_runs (c : Dev nD) (i : grid0.Coords)
    (a1 : Memref sig .tc .vmem S5120x128 .f32) (h1 : a1.IsWhole) (a2 : Memref sig .tc .vmem S128x128 .f32) (h2 : a2.IsWhole)
    (a3 : Memref sig .tc .vmem S1x1 .f32) (h3 : a3.IsWhole) (a4 : Memref sig .tc .vmem S128x128 .f32) (h4 : a4.IsWhole)
    (a5 : Memref sig .tc .vmem S128x2 .f32) (h5 : a5.IsWhole) (a6 : Memref sig .tc .vmem S2x5120 .f32) (h6 : a6.IsWhole)
    (a7 : Memref sig .tc .vmem S2x5120 .f32) (h7 : a7.IsWhole)
    (X1 : S5120x128.Idx → Elt F .f32) (X2 X4 : S128x128.Idx → Elt F .f32) (X3 : S1x1.Idx → Elt F .f32)
    (X5 : S128x2.Idx → Elt F .f32) (X6 X7 : S2x5120.Idx → Elt F .f32) (K : PUnit → sProp 𝕄) :
    iprop((owns (c : Thread nD τ) a1 fullShare X1 ∗ owns (c : Thread nD τ) a2 fullShare X2 ∗ owns (c : Thread nD τ) a3 fullShare X3
        ∗ owns (c : Thread nD τ) a4 fullShare X4 ∗ owns (c : Thread nD τ) a5 fullShare X5 ∗ owns (c : Thread nD τ) a6 fullShare X6
        ∗ owns (c : Thread nD τ) a7 fullShare X7)
      ∗ (iprop(owns (c : Thread nD τ) a1 fullShare X1 ∗ owns (c : Thread nD τ) a2 fullShare X2 ∗ owns (c : Thread nD τ) a3 fullShare X3
        ∗ owns (c : Thread nD τ) a4 fullShare X4 ∗ owns (c : Thread nD τ) a5 fullShare X5 ∗ owns (c : Thread nD τ) a6 fullShare X6
        ∗ owns (c : Thread nD τ) a7 fullShare (k0_pay1 X1 X2 X3 X4 X5 X6)) -∗ K ⟨⟩))
      ⊢ wp frame (wpE (defs₀ (F := F)) Variants.none c none) Set.univ
          (cc0__mlp_mask_kernel i a1 h1 a2 h2 a3 h3 a4 h4 a5 h5 a6 h6 a7 h7) K := by
  simp only [cc0__mlp_mask_kernel_eq_skeleton]; unfold cc0__mlp_mask_kernel_skel
  simp only [Prog.lift, Prog.bind_op, Prog.bind_ret]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  sl_steps
  iapply Hk
  rw [load_full _ zero2, load_full _ zero2, load_full _ zero2, load_full _ zero2, load_full _ zero2, load_full _ zero2,
    e1, e2, e3, e4, e5, e6]
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iexists _; isplitr
  swap
  · iexact H7
  ipureintro; exact store_full a7.view zero2 _ f7 _

end Cert.KernelIdealBody

end
-- ==== Proof.BlockValue.lean ====
/-
  What one block of the kernel computes at one place: column `q` of the block it writes is the one-hot column of the
  scores of row `q` of the block of inputs it reads. Nothing but that one row, and column `q` of the noise, enters.
-/
module

public import proofs.«01_k».proof.Proof.Gen.KernelIdeal.Skeleton
public import proofs.«01_k».proof.Proof.RowMath
public import Idealize.ShloMosaic.Lib.Pipeline.ValueKit

@[expose] public section

set_option maxRecDepth 16384

noncomputable section

namespace Cert.BlockValue

open Cert.KernelIdeal Cert.KernelIdeal.Gen Cert.RowMath
open Idealize.ShloMosaic Idealize.ShloMosaic.TcCoe Idealize.SL.Sem

/-- The score of row `q` for class `l`, with no bias anywhere, of the six blocks a grid point reads. -/
def blockScore (X : FVec Ideal S5120x128 .f32) (A : FVec Ideal S128x128 .f32) (a : FVec Ideal S1x1 .f32)
    (B : FVec Ideal S128x128 .f32) (C : FVec Ideal S128x2 .f32) (u : FVec Ideal S2x5120 .f32) (q : Fin 5120) (l : Fin 2) : EReal :=
  logit (fun j => X (ix2 q j)) (fun j k => A (ix2 j k)) (fun _ => 0) (a (ix2 0 0)) (fun j k => B (ix2 j k)) (fun _ => 0)
    (fun j k => C (ix2 j k)) (fun _ => 0) l + noise (u (ix2 l q))

/-- The kernel's own writing of the same score: the products the other way round, zero less the logarithm. -/
theorem blockScore_eq (X : FVec Ideal S5120x128 .f32) (A : FVec Ideal S128x128 .f32) (a : FVec Ideal S1x1 .f32)
    (B : FVec Ideal S128x128 .f32) (C : FVec Ideal S128x2 .f32) (u : FVec Ideal S2x5120 .f32) (q : Fin 5120) (l : Fin 2) :
    (∑ x : Fin 128, C (ix2 x l) * ∑ y : Fin 128, (if 0 ≤ ∑ z : Fin 128, X (ix2 q z) * A (ix2 z y) then ∑ z : Fin 128, X (ix2 q z) * A (ix2 z y)
        else a (ix2 0 0) * ∑ z : Fin 128, X (ix2 q z) * A (ix2 z y)) * B (ix2 y x))
      + (0 - Ideal.log (0 - Ideal.log (u (ix2 l q)))) = blockScore X A a B C u q l := by
  simp only [blockScore, logit, unit, bend, noise, add_zero, zero_sub]
  congr 1
  exact Finset.sum_congr rfl fun x _ => mul_comm _ _

/-- A truth value made a 32-bit word and then a number is one or zero. -/
theorem win_word (p : Prop) [Decidable p] :
    (FloatOps.sitofp (F := Ideal) FTy.f32 (BitVec.setWidth 32 (BitVec.ofBool (decide p))) : EReal) = ((if p then 1 else 0 : ℝ) : EReal) := by
  change (((BitVec.setWidth 32 (BitVec.ofBool (decide p))).toInt : ℝ) : EReal) = _
  by_cases h : p <;> simp [h]

/-- One place of the block the kernel writes: class `k` of the one-hot column of row `q`'s scores. -/
theorem payload_at (X : FVec Ideal S5120x128 .f32) (A : FVec Ideal S128x128 .f32) (a : FVec Ideal S1x1 .f32)
    (B : FVec Ideal S128x128 .f32) (C : FVec Ideal S128x2 .f32) (u : FVec Ideal S2x5120 .f32) (k : Fin 2) (q : Fin 5120) :
    k0_pay1 (F := Ideal) X A a B C u (ix2 k q) = ((hot (blockScore X A a B C u q) k : ℝ) : EReal) := by
  pointwise [k0_pay1]
  simp only [blockScore_eq]
  generalize blockScore X A a B C u q = s
  have h0 : (1 - 1 : EReal) = 0 := by rw [← EReal.coe_one, ← EReal.coe_sub, sub_self, EReal.coe_zero]
  fin_cases k
  · exact (win_word _).trans (by by_cases h : s 1 ≤ s 0 <;> simp [hot, pick, h])
  · exact (congrArg (1 - ·) (win_word _)).trans (by by_cases h : s 1 ≤ s 0 <;> simp [hot, pick, h, h0])

end Cert.BlockValue

end
-- ==== Proof.BlockMoves.lean ====
/-
  Which places of the arrays the blocks of a grid point are. Point `t` reads rows `5120 t` onwards of the node features
  and the same columns of the transposed noise, and the four parameter arrays whole; it writes the same columns of the
  transposed result. The last point's blocks reach past the arrays' end: only the part inside is moved.
-/
module

public import proofs.«01_k».proof.Proof.Gen.KernelIdeal.Frame
public import proofs.«01_k».proof.Proof.BlockValue

@[expose] public section

set_option maxRecDepth 16384

noncomputable section

namespace Cert.BlockMoves

open Cert.KernelIdeal Cert.KernelIdeal.Gen Cert.RowMath Cert.BlockValue
open Idealize.ShloMosaic Idealize.ShloMosaic.TcCoe Idealize.SL.Sem
open Idealize.ShloMosaic.Pipeline (Dat Cfg Window)

variable (m : (ℓ : Loc nD τ sig) → Buf (Elt Ideal) ℓ)

/-- The block of every window at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, t.val] ∧ win0_6.index t = ![0, t.val] :=
  (by decide +kernel : ∀ t : Fin grid0.N, _)

/-- The result array, transposed as the kernel writes it: column `i` is the one-hot column of row `i`'s scores. -/
def target (c : Dev nD) : S2x10000.Idx → EReal := fun j =>
  ((hot (fun l => logit (fun z => V m c main_arg0 (ix2 (j 1) z)) (fun z k => V m c main_arg2 (ix2 z k)) (fun _ => 0) (V m c main_v1 (ix2 0 0))
    (fun z k => V m c main_arg5 (ix2 z k)) (fun _ => 0) (fun z k => V m c main_arg7 (ix2 z k)) (fun _ => 0) l
      + noise (V m c main_v0 (ix2 l (j 1)))) (j 0) : ℝ) : EReal)

/-- How many rows (columns, of the transposed arrays) a point moves: a whole block, or what is left of the array. -/
theorem moved_size : ∀ t : Fin cfg0.N, win0_0.xsize (grid0.coords t) 0 = min 5120 (10000 - 5120 * t.val) ∧ win0_0.xsize (grid0.coords t) 1 = 128
    ∧ win0_5.xsize (grid0.coords t) 0 = 2 ∧ win0_5.xsize (grid0.coords t) 1 = min 5120 (10000 - 5120 * t.val)
    ∧ win0_6.xsize (grid0.coords t) 0 = 2 ∧ win0_6.xsize (grid0.coords t) 1 = min 5120 (10000 - 5120 * t.val) :=
  (by decide +kernel : ∀ t : Fin grid0.N, _)

/-- A row of the feature block that lies inside the array is that row of the array, whatever the buffer held. -/
theorem rows_at (c : Dev nD) (t : Fin cfg0.N) (d : S5120x128.Idx → EReal) (q : Fin 5120) (i : Fin 10000) (hi : i.val = 5120 * t.val + q.val)
    (z : Fin 128) : win0_0.fill (grid0.coords t) d (iblk m c 0 t) (ix2 q z) = V m c main_arg0 (ix2 i z) := by
  have hm : win0_0.moved (grid0.coords t) (ix2 q z) = true := by
    have h0 : q.val < win0_0.xsize (grid0.coords t) 0 := by
      rw [(moved_size t).1]
      omega
    have h1 : z.val < win0_0.xsize (grid0.coords t) 1 := by
      rw [(moved_size t).2.1]
      exact z.isLt
    exact (win0_0.moved_iff _ _).mpr (Fin.forall_fin_two.mpr ⟨h0, h1⟩)
  unfold Window.fill
  rw [dif_pos hm]
  have hx := (idx t).1
  blk_ext [iblk, hx]

/-- Likewise a column of the noise block. -/
theorem noise_at (c : Dev nD) (t : Fin cfg0.N) (d : S2x5120.Idx → EReal) (l : Fin 2) (q : Fin 5120) (i : Fin 10000) (hi : i.val = 5120 * t.val + q.val) :
    win0_5.fill (grid0.coords t) d (iblk m c 5 t) (ix2 l q) = V m c main_v0 (ix2 l i) := by
  have hm : win0_5.moved (grid0.coords t) (ix2 l q) = true := by
    have h0 : l.val < win0_5.xsize (grid0.coords t) 0 := by
      rw [(moved_size t).2.2.1]
      exact l.isLt
    have h1 : q.val < win0_5.xsize (grid0.coords t) 1 := by
      rw [(moved_size t).2.2.2.1]
      omega
    exact (win0_5.moved_iff _ _).mpr (Fin.forall_fin_two.mpr ⟨h0, h1⟩)
  unfold Window.fill
  rw [dif_pos hm]
  have hx := (idx t).2.2.2.2.2.1
  blk_ext [iblk, hx]

/-- The parameter blocks are the parameter arrays. -/
theorem first_at (c : Dev nD) (t : Fin cfg0.N) (z k : Fin 128) : iblk m c 1 t (ix2 z k) = V m c main_arg2 (ix2 z k) := by
  have hx := (idx t).2.1
  blk_ext [iblk, hx]
theorem slope_at (c : Dev nD) (t : Fin cfg0.N) : iblk m c 2 t (ix2 0 0) = V m c main_v1 (ix2 0 0) := by
  have hx := (idx t).2.2.1
  blk_ext [iblk, hx]
theorem second_at (c : Dev nD) (t : Fin cfg0.N) (z k : Fin 128) : iblk m c 3 t (ix2 z k) = V m c main_arg5 (ix2 z k) := by
  have hx := (idx t).2.2.2.1
  blk_ext [iblk, hx]
theorem classes_at (c : Dev nD) (t : Fin cfg0.N) (z : Fin 128) (k : Fin 2) : iblk m c 4 t (ix2 z k) = V m c main_arg7 (ix2 z k) := by
  have hx := (idx t).2.2.2.2.1
  blk_ext [iblk, hx]

/-- What the body leaves in the output's buffer, on the columns inside the array, is the target's block. -/
theorem block_target (c : Dev nD) (t : Fin cfg0.N) (d0 : S5120x128.Idx → EReal) (d5 : S2x5120.Idx → EReal) :
    win0_6.cut (grid0.coords t) (k0_pay1 (F := Ideal) (win0_0.fill (grid0.coords t) d0 (iblk m c 0 t)) (iblk m c 1 t) (iblk m c 2 t)
      (iblk m c 3 t) (iblk m c 4 t) (win0_5.fill (grid0.coords t) d5 (iblk m c 5 t)))
      = (win0_6.blk t).view.read (Elt Ideal) (target m c) := by
  funext y
  have h0 : (y 0).val < 2 := lt_of_lt_of_eq (y 0).isLt (moved_size t).2.2.2.2.1
  have h1 : (y 1).val < min 5120 (10000 - 5120 * t.val) := lt_of_lt_of_eq (y 1).isLt (moved_size t).2.2.2.2.2
  have hq : win0_6.xinj (grid0.coords t) y = (ix2 (⟨(y 0).val, h0⟩ : Fin 2) (⟨(y 1).val, by omega⟩ : Fin 5120) : S2x5120.Idx) := by
    funext a
    exact Fin.ext (by fin_cases a <;> rfl)
  have hr : (win0_6.blk t).view.read (Elt Ideal) (target m c) y
      = target m c (ix2 (⟨(y 0).val, h0⟩ : Fin 2) (⟨5120 * t.val + (y 1).val, by omega⟩ : Fin 10000)) := by
    have hx := (idx t).2.2.2.2.2.2
    blk_ext [hx]
  rw [hr]
  show k0_pay1 (F := Ideal) _ _ _ _ _ _ (win0_6.xinj (grid0.coords t) y) = _
  rw [hq, payload_at]
  unfold target blockScore
  have hX := fun z => rows_at m c t d0 ⟨(y 1).val, by omega⟩ ⟨5120 * t.val + (y 1).val, by omega⟩ rfl z
  have hU := fun l => noise_at m c t d5 l ⟨(y 1).val, by omega⟩ ⟨5120 * t.val + (y 1).val, by omega⟩ rfl
  simp only [hX, hU, first_at, slope_at, second_at, classes_at]
  rfl

end Cert.BlockMoves

end
-- ==== Proof.KernelIdealRun.lean ====
/-
  The kernel over exact numbers, run whole: its result array is, class by class and row by row, the one-hot of the
  row's scores; its arguments end as they started and every semaphore counter at zero.
-/
module

public import proofs.«01_k».proof.Proof.KernelIdealBody
public import proofs.«01_k».proof.Proof.BlockMoves

@[expose] public section

set_option maxRecDepth 16384

noncomputable section

namespace Cert.KernelIdealRun

open Cert.KernelIdeal Cert.KernelIdeal.Gen Cert.KernelIdealBody Cert.BlockMoves Cert.RowMath
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- What the buffers hold after each point: the inputs' blocks, and the target's block; zeros past the arrays' end,
    of which nothing is claimed. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => win0_5.fill (grid0.coords t) (fun _ => (0 : EReal)) (iblk m c 5 t)
    | ⟨6, _⟩ => win0_6.fill (grid0.coords t) (fun _ => (0 : EReal)) ((win0_6.blk t).view.read (Elt Ideal) (target m c))
  Φ _ := Pipeline.ΦA spec0 c
  q _ := fullShare
  owed _ := 0

theorem before_rows (c : Dev nD) (t : Fin cfg0.N) (d) :
    (dats m 0 c).before 0 t d = win0_0.fill (grid0.coords t) d (iblk m c 0 t) := by
  unfold Dat.before; rw [if_pos (fetch0_0 t)]; rfl
theorem before_noise (c : Dev nD) (t : Fin cfg0.N) (d) :
    (dats m 0 c).before 5 t d = win0_5.fill (grid0.coords t) d (iblk m c 5 t) := by
  unfold Dat.before; rw [if_pos (fetch0_5 t)]; rfl

/-- Every grid point runs, and leaves the target's block. -/
theorem point_runs (c : Dev nD) :
    BodyObligationLoose (dats m 0 c) (defs₀ (F := Ideal)) Variants.none () Set.univ := fun t => by
  rw [bigSep_W0, bigSep_W0]
  beta_reduce
  dsimp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_rows m c t d0, before_noise m c t d5,
    before0_1_of m (dats m 0 c) rfl (fun _ => rfl) t d1, before0_2_of m (dats m 0 c) rfl (fun _ => rfl) t d2,
    before0_3_of m (dats m 0 c) rfl (fun _ => rfl) t d3, before0_4_of m (dats m 0 c) rfl (fun _ => rfl) t d4]
  iapply (body_runs (F := Ideal) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_0.fill (grid0.coords t) d0 (iblk m c 0 t)) (iblk m c 1 t) (iblk m c 3 t) (iblk m c 2 t) (iblk m c 4 t)
    (win0_5.fill (grid0.coords t) d5 (iblk m c 5 t)) ((dats m 0 c).before 6 t d6) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  have e0 : win0_0.cut (grid0.coords t) ((dats m 0 c).after 0 t) = iblk m c 0 t := win0_0.cut_fill _ _ _
  have e5 : win0_5.cut (grid0.coords t) ((dats m 0 c).after 5 t) = iblk m c 5 t := win0_5.cut_fill _ _ _
  have e6 : win0_6.cut (grid0.coords t) ((dats m 0 c).after 6 t) = (win0_6.blk t).view.read (Elt Ideal) (target m c) := win0_6.cut_fill _ _ _
  isplitl [H0]
  · iexists d0
    change _ ⊢ owns (c : Thread nD τ) (win0_0.stage (cfg0.slots t 0)) fullShare (win0_0.fill (grid0.coords t) d0 (win0_0.cut (grid0.coords t) ((dats m 0 c).after 0 t)))
    rw [e0]; try iexact H0
  isplitl [H1]; · iexact H1
  isplitl [H2]; · iexact H2
  isplitl [H3]; · iexact H3
  isplitl [H4]; · iexact H4
  isplitl [H5]
  · iexists d5
    change _ ⊢ owns (c : Thread nD τ) (win0_5.stage (cfg0.slots t 5)) fullShare (win0_5.fill (grid0.coords t) d5 (win0_5.cut (grid0.coords t) ((dats m 0 c).after 5 t)))
    rw [e5]; try iexact H5
  · iexists k0_pay1 (F := Ideal) (win0_0.fill (grid0.coords t) d0 (iblk m c 0 t)) (iblk m c 1 t) (iblk m c 2 t)
      (iblk m c 3 t) (iblk m c 4 t) (win0_5.fill (grid0.coords t) d5 (iblk m c 5 t))
    change _ ⊢ owns (c : Thread nD τ) (win0_6.stage (cfg0.slots t 6)) fullShare (win0_6.fill (grid0.coords t) _ (win0_6.cut (grid0.coords t) ((dats m 0 c).after 6 t)))
    rw [e6, ← block_target m c t d0 d5, win0_6.fill_cut]; try iexact H6

set_option backward.isDefEq.respectTransparency.types false in
/-- The whole program runs: its arrays end at the contents the windows leave, the other buffers as the host's last
    operation leaves them, every counter at zero. -/
theorem run_main : θ_run defs (onTc (τ := τ) (main (F := Ideal))) (s₀ m ρ) (fun r =>
    Pipeline.FramePost cfgs (dats m) (0 : Fin 1) (Pipeline.afterTail₀ cfgs (dats m) 0 (V0 m) [hostOps1]) r ∧ r.2.sem = fun _ => 0) :=
  Pipeline.θ_run_frame_around cfgs (dats m) (0 : Fin 1) launch0 defs₀ Variants.none m ρ main
    (hbody := point_runs m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl) (Q' := _)

/-- The kernel's own result array ends at the target. -/
theorem array_eq (c : Dev nD) : (dats m 0 c).arrAt 6 cfg0.N = target m c := by
  refine Dat.arrAt_eq_of_covers _ 6 _ (by decide +kernel) fun t _ y => ?_
  have hx := (idx t).2.2.2.2.2.2
  have e6 : win0_6.cut (grid0.coords t) ((dats m 0 c).after 6 t) = (win0_6.blk t).view.read (Elt Ideal) (target m c) := win0_6.cut_fill _ _ _
  exact congrFun e6 y

end Cert.KernelIdealRun

end
-- ==== Proof.ReferenceRun.lean ====
/-
  The plain reference, run: it computes, in this order, the hidden layer, its PReLU, the second layer, the two
  class scores with the noise added, their softmax, and the one-hot vector of the greatest probability put through
  the straight-through sum. Each stage is a definition of its own, over whole arrays.
-/
module

public import proofs.«01_k».proof.Defs
public import proofs.«01_k».proof.Proof.Gen.ReferenceIdeal
public import Idealize.ShloMosaic.Lib.Claim
public import Idealize.ShloMosaic.Lib.Quiescent
public import Idealize.ShloMosaic.Lib.Pipeline.ValueKit

@[expose] public section

set_option maxRecDepth 16384

noncomputable section

namespace Cert.ReferenceRun

open Cert.ReferenceIdeal Cert.ReferenceIdeal.Gen
open Idealize.ShloMosaic Idealize.ShloMosaic.TcCoe Idealize.SL.Sem

/-- A layer of 128 units on every row: the product with the weights, and the bias under every row. -/
def layer (h : FVec Ideal S10000x128 .f32) (W : FVec Ideal S128x128 .f32) (b : FVec Ideal S128 .f32) : FVec Ideal S10000x128 .f32 :=
  addf (Host.dotGeneral dot_S10000x128_S128x128_S10000x128_1_0_0_1_n_n none h W)
    (broadcastInDim S10000x128 ![0, 1] bcast_S1x128_S10000x128_0_1 (broadcastInDim S1x128 ![1] bcast_S128_S1x128_1 b))

/-- PReLU with one slope for all units. -/
def prelu (a : FVec Ideal S1 .f32) (h : FVec Ideal S10000x128 .f32) : FVec Ideal S10000x128 .f32 :=
  select (cmpf .oge h (broadcastInDim S10000x128 ![] bcast_S_S10000x128 (constant S_ .f32 0x00000000#32))) h
    (mulf (broadcastInDim S10000x128 ![0, 1] bcast_S1x1_S10000x128_0_1 (broadcastInDim S1x1 ![1] bcast_S1_S1x1_1 a)) h)

/-- The two class scores of every row with their noise: the product with the class weights, the class biases, and
    minus the logarithm of minus the logarithm of the noise. -/
def scores (h : FVec Ideal S10000x128 .f32) (Wc : FVec Ideal S128x2 .f32) (bc : FVec Ideal S2 .f32)
    (u : FVec Ideal S10000x2 .f32) : FVec Ideal S10000x2 .f32 :=
  addf (addf (Host.dotGeneral dot_S10000x128_S128x2_S10000x2_1_0_0_1_n_n none h Wc)
      (broadcastInDim S10000x2 ![0, 1] bcast_S1x2_S10000x2_0_1 (broadcastInDim S1x2 ![1] bcast_S2_S1x2_1 bc)))
    (Host.negf (Host.log (Host.negf (Host.log u))))

/-- The scores over the temperature, which is one. -/
def tempered (s : FVec Ideal S10000x2 .f32) : FVec Ideal S10000x2 .f32 :=
  Host.divf s (broadcastInDim S10000x2 ![] bcast_S_S10000x2 (constant S_ .f32 0x3F800000#32))

/-- The exponentials of a row's entries less the row's greatest. -/
def weights (s : FVec Ideal S10000x2 .f32) : FVec Ideal S10000x2 .f32 :=
  Host.exp (subf s (broadcastInDim S10000x2 ![0, 1] bcast_S10000x1_S10000x2_0_1
    (broadcastInDim S10000x1 ![0] bcast_S10000_S10000x1_0
      (maximumf (broadcastInDim S10000 ![] bcast_S_S10000 (constant S_ .f32 0xFF800000#32))
        (Host.reduce FloatOps.maximumf s (constant S_ .f32 0xFF800000#32) reducesTo_S10000x2_S10000_d1 h_S_)))))

/-- Every entry over its row's sum. -/
def normalized (e : FVec Ideal S10000x2 .f32) : FVec Ideal S10000x2 .f32 :=
  Host.divf e (broadcastInDim S10000x2 ![0, 1] bcast_S10000x1_S10000x2_0_1
    (broadcastInDim S10000x1 ![0] bcast_S10000_S10000x1_0
      (Host.reduceAdd e (constant S_ .f32 0x00000000#32) reducesTo_S10000x2_S10000_d1 h_S_)))

/-- The place of every row's greatest entry. -/
def place (y : FVec Ideal S10000x2 .f32) : IVec S10000 32 := fun j =>
  (Host.argReduce reducer_argmax_f32_i32 y (iotaInDim S10000x2 32 1) (constant S_ .f32 0xFF800000#32) (constantI S_ 32 0#32)
    reducesTo_S10000x2_S10000_d1 h_S_ j).2

/-- The one-hot rows of a column of places. -/
def oneHot (k : IVec S10000 32) : FVec Ideal S10000x2 .f32 :=
  uitofp .f32 (cmpi .eq (broadcastInDim S10000x2 ![0, 1] bcast_S10000x1_S10000x2_0_1 (broadcastInDim S10000x1 ![0] bcast_S10000_S10000x1_0 k))
    (broadcastInDim S10000x2 ![0, 1] bcast_S1x2_S10000x2_0_1 (iotaInDim S1x2 32 1)))

/-- The straight-through sum: the one-hot rows, less the probabilities, plus the probabilities. -/
def straight (y : FVec Ideal S10000x2 .f32) : FVec Ideal S10000x2 .f32 :=
  addf (subf (oneHot (place y)) y) y

/-- What the reference computes, of its nine float arguments. -/
def result (x : FVec Ideal S10000x128 .f32) (W1 : FVec Ideal S128x128 .f32) (b1 : FVec Ideal S128 .f32) (a : FVec Ideal S1 .f32)
    (W2 : FVec Ideal S128x128 .f32) (b2 : FVec Ideal S128 .f32) (Wc : FVec Ideal S128x2 .f32) (bc : FVec Ideal S2 .f32)
    (u : FVec Ideal S10000x2 .f32) : FVec Ideal S10000x2 .f32 :=
  straight (normalized (weights (tempered (scores (layer (prelu a (layer x W1 b1)) W2 b2) Wc bc u))))

variable (m : (ℓ : Loc nD τ sig) → Buf (Elt Ideal) ℓ) (ρ : Dev nD → PrngReg)

set_option maxHeartbeats 1600000 in
/-- The reference's run: its result is `result` of its arguments, which end unchanged, and every counter at zero. -/
theorem run_main : θ_run defs (onTc (τ := τ) (main (F := Ideal))) ⟨m, fun _ => 0, ρ⟩ (fun r => (∀ c : Dev nD,
      r.2.mem ((c.tc : Thread nD τ).loc main_v39)
        = result (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine θ_run_mono ?_ fun r h => ⟨h, sem_eq_zero_of_no_sems rfl _⟩
  hlo_run
  simp only [StableHlo.TRef.ofBuf_toBuf, result, straight, oneHot, place, normalized, weights, tempered, scores, layer, prelu]
  rfl

/-- The reference's frame. -/
theorem quiescent : Cert.quiescent_ReferenceIdeal := fun m ρ _ =>
  (θ_run defs _ _).mono (fun _ h => ⟨fun c => (h.1 c).2, h.2⟩) (run_main m ρ)

end Cert.ReferenceRun

end
-- ==== Proof.ReferenceValue.lean ====
/-
  What the reference computes at one place of its result: the one-hot row of the row's two scores.
-/
module

public import proofs.«01_k».proof.Proof.ReferenceRun
public import proofs.«01_k».proof.Proof.RowMath

@[expose] public section

set_option maxRecDepth 16384

noncomputable section

namespace Cert.ReferenceValue

open Cert.ReferenceIdeal Cert.ReferenceIdeal.Gen Cert.ReferenceRun Cert.RowMath
open Idealize.ShloMosaic Idealize.ShloMosaic.TcCoe Idealize.SL.Sem

/-- Row `i`'s score for class `k`, of the nine float arguments. -/
def score (x : FVec Ideal S10000x128 .f32) (W1 : FVec Ideal S128x128 .f32) (b1 : FVec Ideal S128 .f32) (a : FVec Ideal S1 .f32)
    (W2 : FVec Ideal S128x128 .f32) (b2 : FVec Ideal S128 .f32) (Wc : FVec Ideal S128x2 .f32) (bc : FVec Ideal S2 .f32)
    (u : FVec Ideal S10000x2 .f32) (i : Fin 10000) (k : Fin 2) : EReal :=
  logit (fun j => x (ix2 i j)) (fun j l => W1 (ix2 j l)) (fun l => b1 (ix1 l)) (a (ix1 0)) (fun j l => W2 (ix2 j l)) (fun l => b2 (ix1 l))
    (fun j l => Wc (ix2 j l)) (fun l => bc (ix1 l)) k + noise (u (ix2 i k))

theorem layer_at (h : FVec Ideal S10000x128 .f32) (W : FVec Ideal S128x128 .f32) (b : FVec Ideal S128 .f32) (i : Fin 10000) (k : Fin 128) :
    layer h W b (ix2 i k) = unit (fun j => h (ix2 i j)) (fun j l => W (ix2 j l)) (fun l => b (ix1 l)) k := by
  pointwise [layer, unit]

theorem prelu_at (a : FVec Ideal S1 .f32) (h : FVec Ideal S10000x128 .f32) (i : Fin 10000) (k : Fin 128) :
    prelu a h (ix2 i k) = bend (a (ix1 0)) (h (ix2 i k)) := by
  pointwise [prelu, bend]

theorem scores_at (h : FVec Ideal S10000x128 .f32) (Wc : FVec Ideal S128x2 .f32) (bc : FVec Ideal S2 .f32) (u : FVec Ideal S10000x2 .f32)
    (i : Fin 10000) (k : Fin 2) :
    scores h Wc bc u (ix2 i k) = unit (fun j => h (ix2 i j)) (fun j l => Wc (ix2 j l)) (fun l => bc (ix1 l)) k + noise (u (ix2 i k)) := by
  pointwise [scores, unit, noise]

/-- Dividing by the temperature changes nothing. -/
theorem tempered_at (s : FVec Ideal S10000x2 .f32) (i : Fin 10000) (k : Fin 2) : tempered s (ix2 i k) = s (ix2 i k) := by
  have h : Ideal.div (s (ix2 i k)) 1 = s (ix2 i k) := by
    rw [← EReal.coe_one, Ideal.div_coe one_ne_zero, one_div, inv_one, EReal.coe_one, mul_one]
  pointwise [tempered]
  exact h

/-- The pattern the maximum starts from is −∞. -/
theorem start_eq : Ideal.ofBits FTy.f32 4286578688#32 = ⊥ := by
  simp [Ideal.ofBits, Ideal.ieee]

theorem weights_at (s : FVec Ideal S10000x2 .f32) (i : Fin 10000) (k : Fin 2) :
    weights s (ix2 i k) = weight (max (s (ix2 i 0)) (s (ix2 i 1))) (s (ix2 i k)) := by
  have h : max (Ideal.ofBits FTy.f32 4286578688#32)
      (Finset.fold max (Ideal.ofBits FTy.f32 4286578688#32) (fun x : Fin 2 => s (ix2 i x)) Finset.univ) = max (s (ix2 i 0)) (s (ix2 i 1)) := by
    rw [start_eq, show (Finset.univ : Finset (Fin 2)) = {0, 1} from rfl, Finset.fold_insert (by decide), Finset.fold_singleton]
    simp
  pointwise [weights]
  rw [h]
  rfl

theorem normalized_at (e : FVec Ideal S10000x2 .f32) (i : Fin 10000) (k : Fin 2) :
    normalized e (ix2 i k) = Ideal.div (e (ix2 i k)) (e (ix2 i 0) + e (ix2 i 1)) := by
  pointwise [normalized]
  rw [Fin.sum_univ_two]

theorem probs_at (s : FVec Ideal S10000x2 .f32) (i : Fin 10000) (k : Fin 2) :
    normalized (weights s) (ix2 i k) = prob (fun l => s (ix2 i l)) k := by
  rw [normalized_at, weights_at, weights_at, weights_at]
  rfl

/-! ## The place of the greatest -/

/-- The two places of row `i` are the ones the reduction folds, the first class first. -/
theorem fiber_eq (y : FVec Ideal S10000x2 .f32) (i : Fin 10000) :
    Host.argReduceFiber y (iotaInDim S10000x2 32 1) reducesTo_S10000x2_S10000_d1 (ix1 i)
      = [(y (ix2 i 0), 0#32), (y (ix2 i 1), 1#32)] := by
  unfold Host.argReduceFiber
  have hl : (List.finRange S10000x2.numel).filter (fun n => decide (reducesTo_S10000x2_S10000_d1.drop (S10000x2.rowMajor.symm n) = ix1 i))
      = [S10000x2.rowMajor (ix2 i 0), S10000x2.rowMajor (ix2 i 1)] := by
    have v0 := Shape.rowMajor_val_two (ix2 i 0 : S10000x2.Idx)
    have v1 := Shape.rowMajor_val_two (ix2 i 1 : S10000x2.Idx)
    have hlt : S10000x2.rowMajor (ix2 i 0) < S10000x2.rowMajor (ix2 i 1) := by
      rw [Fin.lt_def, v0, v1]
      exact Nat.add_lt_add_left Nat.zero_lt_one _
    refine ((List.pairwise_lt_finRange _).filter _).eq_of_mem_iff (List.pairwise_pair.mpr hlt) fun n => ?_
    rw [List.mem_filter, decide_eq_true_iff, Shape.ReducesTo.fiber_r2_a1]
    simp only [List.mem_finRange, true_and, List.mem_cons, List.mem_nil_iff, or_false]
    constructor
    · rintro ⟨k, hk⟩
      have hn : S10000x2.rowMajor (ix2 i k) = n := by rw [← S10000x2.rowMajor.apply_symm_apply n, ← hk]; rfl
      subst hn
      fin_cases k
      · exact Or.inl rfl
      · exact Or.inr rfl
    · rintro (rfl | rfl)
      · exact ⟨0, by rw [Equiv.symm_apply_apply]; rfl⟩
      · exact ⟨1, by rw [Equiv.symm_apply_apply]; rfl⟩
  rw [hl]
  simp only [List.map_cons, List.map_nil, Equiv.symm_apply_apply]
  pointwise

/-- The fold over the two: the first class where the two tie. -/
theorem place_at (y : FVec Ideal S10000x2 .f32) (i : Fin 10000) :
    place y (ix1 i) = BitVec.ofNat 32 (pick fun k => y (ix2 i k)).val := by
  unfold place
  rw [Ideal.argReduce_eq_reduce2, Host.reduce2_eq_foldl_fiber, fiber_eq]
  simp only [List.foldl_cons, List.foldl_nil, reducer_argmax_f32_i32]
  have hc : constant (F := Ideal) S_ .f32 (4286578688#32) (Shape.Idx.first h_S_) = (⊥ : EReal) := start_eq
  have hz : constantI S_ 32 (0#32) (Shape.Idx.first h_S_) = 0#32 := rfl
  have hp : (pick fun k => y (ix2 i k)) = if y (ix2 i 1) ≤ y (ix2 i 0) then 0 else 1 := rfl
  rw [hc, hz, hp]
  generalize y (ix2 i 0) = p, y (ix2 i 1) = q
  have hone : ∀ r : Ideal .f32, FloatOps.cmpf .une r r = 0#1 := fun r => by
    change BitVec.ofBool (decide (r ≠ r)) = 0#1
    simp
  have hbot : FloatOps.cmpf (F := Ideal) (φ := .f32) .ogt (⊥ : EReal) p = 0#1 := by
    change BitVec.ofBool (decide (p < (⊥ : EReal))) = 0#1
    simp
  have hgt : FloatOps.cmpf .ogt p q = BitVec.ofBool (decide (q < p)) := rfl
  have heq : FloatOps.cmpf .oeq p q = BitVec.ofBool (decide (p = q)) := rfl
  have hsame : ∀ c : BitVec 1, Scalar.select c 0#32 0#32 = 0#32 := fun c => by simp [Scalar.select]
  have hzero : IntOp.ori (0#1 : BitVec 1) 0#1 = 0#1 := rfl
  have hlt : IntOp.cmpi .slt (0#32) 1#32 = 1#1 := rfl
  have hsel : Scalar.select (0#1 : BitVec 1) (⊥ : EReal) p = p := rfl
  rw [hone ⊥, hbot, hzero, hsel, hsame, hone p, hgt, heq, hlt]
  rcases lt_trichotomy p q with h | h | h
  · rw [decide_eq_false (not_lt.mpr h.le), decide_eq_false h.ne, if_neg (not_le.mpr h)]
    rfl
  · rw [decide_eq_false (not_lt.mpr h.le), decide_eq_true h, if_pos h.ge]
    rfl
  · rw [decide_eq_true h, decide_eq_false h.ne', if_pos h.le]
    rfl

theorem oneHot_at (k : IVec S10000 32) (i : Fin 10000) (c d : Fin 2) (h : k (ix1 i) = BitVec.ofNat 32 d.val) :
    oneHot k (ix2 i c) = (((if d = c then 1 else 0 : ℝ)) : EReal) := by
  pointwise [oneHot]
  rw [h]
  fin_cases c <;> fin_cases d <;> simp [IntOp.cmpi, FloatOps.uitofp]

/-! ## The result -/

theorem straight_at (p : FVec Ideal S10000x2 .f32) (i : Fin 10000) (k : Fin 2) :
    straight p (ix2 i k) = ((hot (fun l => p (ix2 i l)) k : ℝ) : EReal) - p (ix2 i k) + p (ix2 i k) := by
  have h : oneHot (place p) (ix2 i k) = ((hot (fun l => p (ix2 i l)) k : ℝ) : EReal) := oneHot_at (place p) i k _ (place_at p i)
  rw [← h]
  pointwise [straight]

/-- The scores' stage of the whole reference, at a place. -/
theorem score_at (x : FVec Ideal S10000x128 .f32) (W1 : FVec Ideal S128x128 .f32) (b1 : FVec Ideal S128 .f32) (a : FVec Ideal S1 .f32)
    (W2 : FVec Ideal S128x128 .f32) (b2 : FVec Ideal S128 .f32) (Wc : FVec Ideal S128x2 .f32) (bc : FVec Ideal S2 .f32)
    (u : FVec Ideal S10000x2 .f32) (i : Fin 10000) (k : Fin 2) :
    tempered (scores (layer (prelu a (layer x W1 b1)) W2 b2) Wc bc u) (ix2 i k) = score x W1 b1 a W2 b2 Wc bc u i k := by
  rw [tempered_at, scores_at]
  simp only [layer_at, prelu_at]
  rfl

/-- Row `i` of the reference's result is the one-hot row of its scores, where no score is +∞ and one is finite. -/
theorem result_at (x : FVec Ideal S10000x128 .f32) (W1 : FVec Ideal S128x128 .f32) (b1 : FVec Ideal S128 .f32) (a : FVec Ideal S1 .f32)
    (W2 : FVec Ideal S128x128 .f32) (b2 : FVec Ideal S128 .f32) (Wc : FVec Ideal S128x2 .f32) (bc : FVec Ideal S2 .f32)
    (u : FVec Ideal S10000x2 .f32) (i : Fin 10000) (k : Fin 2) (ht : ∀ l, score x W1 b1 a W2 b2 Wc bc u i l ≠ ⊤)
    (hf : ∃ l, Finite (score x W1 b1 a W2 b2 Wc bc u i l)) :
    result x W1 b1 a W2 b2 Wc bc u (ix2 i k) = ((hot (score x W1 b1 a W2 b2 Wc bc u i) k : ℝ) : EReal) := by
  unfold result
  rw [straight_at]
  simp only [probs_at, score_at]
  exact straight_eq ht hf k

end Cert.ReferenceValue

end
-- ==== Proof.KernelIdealValue.lean ====
/-
  The kernel's result over exact numbers, at one place: the one-hot row of the row's scores with no bias — the
  transposes the host makes before and after the kernel's region undone.
-/
module

public import proofs.«01_k».proof.Proof.KernelIdealRun
public import proofs.«01_k».proof.Proof.ReferenceValue
public import Idealize.ShloMosaic.Lib.Claim

@[expose] public section

set_option maxRecDepth 16384

noncomputable section

namespace Cert.KernelIdealValue

open Cert.KernelIdeal Cert.KernelIdeal.Gen Cert.KernelIdealRun Cert.BlockMoves Cert.RowMath
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The noise as the region finds it: transposed. -/
theorem noise_entry (c : Dev nD) (l : Fin 2) (i : Fin 10000) :
    V m c main_v0 (ix2 l i) = m ((c : Thread nD τ).loc main_arg9) (ix2 i l) := by
  have h : V m c main_v0 = transpose S2x10000 [1, 0] (m ((c : Thread nD τ).loc main_arg9)) transposes_S10000x2_S2x10000_1_0 := by
    simp only [V, V0, hostOps0, List.flatten_cons, List.flatten_nil, List.append_nil]
    after_results
  rw [h]
  pointwise

/-- The slope as the region finds it: a one-by-one array. -/
theorem slope_entry (c : Dev nD) : V m c main_v1 (ix2 0 0) = m ((c : Thread nD τ).loc main_arg4) (ix1 0) := by
  have h : V m c main_v1 = shapeCast S1x1 (m ((c : Thread nD τ).loc main_arg4)) shapeCasts_S1_S1x1 := by
    simp only [V, V0, hostOps0, List.flatten_cons, List.flatten_nil, List.append_nil]
    after_results
    try rfl
  rw [h]
  pointwise

/-- The scores of row `i`, of the kernel's arguments with every bias zero. -/
def plainScore (c : Dev nD) (i : Fin 10000) : Fin 2 → EReal :=
  ReferenceValue.score (m ((c : Thread nD τ).loc main_arg0)) (m ((c : Thread nD τ).loc main_arg2)) (fun _ => 0)
    (m ((c : Thread nD τ).loc main_arg4)) (m ((c : Thread nD τ).loc main_arg5)) (fun _ => 0) (m ((c : Thread nD τ).loc main_arg7))
    (fun _ => 0) (m ((c : Thread nD τ).loc main_arg9)) i

theorem target_at (c : Dev nD) (k : Fin 2) (i : Fin 10000) : target m c (ix2 k i) = ((hot (plainScore m c i) k : ℝ) : EReal) := by
  have hs : (fun l => logit (fun z => V m c main_arg0 (ix2 i z)) (fun z k => V m c main_arg2 (ix2 z k)) (fun _ => 0) (V m c main_v1 (ix2 0 0))
      (fun z k => V m c main_arg5 (ix2 z k)) (fun _ => 0) (fun z k => V m c main_arg7 (ix2 z k)) (fun _ => 0) l
        + noise (V m c main_v0 (ix2 l i))) = plainScore m c i := by
    funext l
    rw [noise_entry, slope_entry, V_main_arg0, V_main_arg2, V_main_arg5, V_main_arg7]
    rfl
  show ((hot _ k : ℝ) : EReal) = _
  exact congrArg (fun s => ((hot s k : ℝ) : EReal)) hs

/-- What the host makes of the region's result: its transpose. -/
def final (c : Dev nD) : S10000x2.Idx → EReal := transpose S10000x2 [1, 0] (target m c : FVec Ideal S2x10000 .f32) transposes_S2x10000_S10000x2_1_0

theorem final_at (c : Dev nD) (i : Fin 10000) (k : Fin 2) : final m c (ix2 i k) = ((hot (plainScore m c i) k : ℝ) : EReal) := by
  rw [← target_at]
  pointwise [final]

theorem result_eq (c : Dev nD) : Pipeline.afterTail₀ cfgs (dats m) 0 (V0 m) [hostOps1] c main_v3 = final m c := by
  unfold Pipeline.afterTail₀ final
  rw [← array_eq m c]
  simp only [hostOps1, List.flatten_cons, List.flatten_nil, List.append_nil]
  after_results
  exact congrArg (transpose S10000x2 [1, 0] · transposes_S2x10000_S10000x2_1_0)
    (Pipeline.withArrays_arr spec0 winFacts0.arr_inj c (V0 m c) (fun w => (dats m 0 c).arrAt w cfg0.N) 6)

/-- The kernel's run: its result is `final`, its arguments end unchanged. -/
theorem run_values : θ_run defs (onTc (τ := τ) (main (F := Ideal))) (s₀ m ρ) (fun r => ∀ c : Dev nD,
    r.2.mem ((c.tc : Thread nD τ).loc main_v3) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  run_from ((θ_run _ _ _).mono (fun _ h => h.1) (run_main m ρ))
  · exact result_eq m c
  · exact W_main_arg1 m (dats m) c
  · exact W_main_arg3 m (dats m) c
  · exact W_main_arg4 m (dats m) c
  · exact W_main_arg6 m (dats m) c
  · exact W_main_arg8 m (dats m) c
  · exact W_main_arg9 m (dats m) c

/-- The frame of the kernel over exact numbers. -/
theorem quiescent : Cert.quiescent_KernelIdeal := fun m ρ _ =>
  θ_run_with_sems (frame_of m ρ (dats m) fun _ _ => rfl) (run_main m ρ)

end Cert.KernelIdealValue

end
-- ==== Proof.Equation.lean ====
/-
  The two results are equal. Under the precondition every row's scores are below +∞ and one of them is finite, so the
  reference's row is the one-hot row of its scores; with the biases zero these are the scores the kernel compares.
-/
module

public import proofs.«01_k».proof.Defs
public import proofs.«01_k».proof.Proof.Inputs
public import proofs.«01_k».proof.Proof.KernelIdealValue

@[expose] public section

set_option maxRecDepth 16384

noncomputable section

namespace Cert.Equation

open Cert.RowMath Cert.ReferenceValue Cert.Inputs
open Cert.ReferenceIdeal (S10000x128 S128x128 S128 S1 S128x2 S2 S10000x2)
open Idealize.ShloMosaic Idealize.ShloMosaic.TcCoe Idealize.SL.Sem

/-- What the value claim needs of finite arguments and of noise in range. -/
structure Good (x : FVec Ideal S10000x128 .f32) (W1 : FVec Ideal S128x128 .f32) (b1 : FVec Ideal S128 .f32) (a : FVec Ideal S1 .f32)
    (W2 : FVec Ideal S128x128 .f32) (b2 : FVec Ideal S128 .f32) (Wc : FVec Ideal S128x2 .f32) (bc : FVec Ideal S2 .f32)
    (u : FVec Ideal S10000x2 .f32) : Prop where
  x : ∀ i, Finite (x i)
  W1 : ∀ i, Finite (W1 i)
  b1 : ∀ i, Finite (b1 i)
  a : ∀ i, Finite (a i)
  W2 : ∀ i, Finite (W2 i)
  b2 : ∀ i, Finite (b2 i)
  Wc : ∀ i, Finite (Wc i)
  bc : ∀ i, Finite (bc i)
  below : ∀ i, u i < (1 : EReal)
  positive : ∀ i : Fin 10000, ∃ k : Fin 2, (0 : EReal) < u (ix2 i k)

variable {x : FVec Ideal S10000x128 .f32} {W1 : FVec Ideal S128x128 .f32} {b1 : FVec Ideal S128 .f32} {a : FVec Ideal S1 .f32}
  {W2 : FVec Ideal S128x128 .f32} {b2 : FVec Ideal S128 .f32} {Wc : FVec Ideal S128x2 .f32} {bc : FVec Ideal S2 .f32}
  {u : FVec Ideal S10000x2 .f32}

/-- The reference's row is the one-hot row of the row's scores. -/
theorem reference_at (h : Good x W1 b1 a W2 b2 Wc bc u) (i : Fin 10000) (k : Fin 2) :
    ReferenceRun.result x W1 b1 a W2 b2 Wc bc u (ix2 i k) = ((hot (score x W1 b1 a W2 b2 Wc bc u i) k : ℝ) : EReal) := by
  have hl : ∀ l, Finite (logit (fun j => x (ix2 i j)) (fun j l => W1 (ix2 j l)) (fun l => b1 (ix1 l)) (a (ix1 0)) (fun j l => W2 (ix2 j l))
      (fun l => b2 (ix1 l)) (fun j l => Wc (ix2 j l)) (fun l => bc (ix1 l)) l) :=
    logit_finite (fun _ => h.x _) (fun _ _ => h.W1 _) (fun _ => h.b1 _) (h.a _) (fun _ _ => h.W2 _) (fun _ => h.b2 _)
      (fun _ _ => h.Wc _) (fun _ => h.bc _)
  refine result_at _ _ _ _ _ _ _ _ _ i k (fun l => add_ne_top (hl l) (noise_ne_top (h.below _))) ?_
  obtain ⟨l, hp⟩ := h.positive i
  exact ⟨l, (hl l).add (noise_finite (h.below _) hp)⟩

end Cert.Equation

end
-- ==== Proof.lean ====
/-
  The claims, assembled: the frames of the compiled kernel, of the kernel over exact numbers and of the reference; that
  the kernel over exact numbers is the compiled one with nothing rewritten; and that on finite inputs with no bias, and
  noise in range, its result is the reference's.
-/
module

public import proofs.«01_k».proof.Defs
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Idealize.ShloMosaic.TcCoe
open Cert.Inputs Cert.RowMath Cert.Equation

/-- The kernel's arguments, of a memory the precondition holds of, are what the value claim needs. -/
theorem good {m : (ℓ : Loc Cert.KernelIdeal.nD Cert.KernelIdeal.τ Cert.KernelIdeal.sig) → Buf (Elt Ideal) ℓ}
    (h : Cert.Pre_KernelIdeal_finite_inputs_no_bias (hPre_finite_inputs_no_bias := Cert.Pre_finite_inputs_no_bias.Gen.facts) m) (c : Dev Cert.KernelIdeal.nD) :
    (m (c.tc.loc Cert.KernelIdeal.main_arg3) = fun _ => (0 : EReal)) ∧ (m (c.tc.loc Cert.KernelIdeal.main_arg6) = fun _ => (0 : EReal))
    ∧ (m (c.tc.loc Cert.KernelIdeal.main_arg8) = fun _ => (0 : EReal)) ∧
    Good (m (c.tc.loc Cert.KernelIdeal.main_arg0)) (m (c.tc.loc Cert.KernelIdeal.main_arg2)) (fun _ => 0)
      (m (c.tc.loc Cert.KernelIdeal.main_arg4)) (m (c.tc.loc Cert.KernelIdeal.main_arg5)) (fun _ => 0)
      (m (c.tc.loc Cert.KernelIdeal.main_arg7)) (fun _ => 0) (m (c.tc.loc Cert.KernelIdeal.main_arg9)) := by
  obtain ⟨hx, h1, hb1, ha, h2, hb2, hc, hbc, hu, hp⟩ := h c
  exact ⟨zero_of _ _ hb1, zero_of _ _ hb2, zero_of _ _ hbc,
    finite_of _ _ hx, finite_of _ _ h1, fun _ => .zero, finite_of _ _ ha, finite_of _ _ h2, fun _ => .zero, finite_of _ _ hc, fun _ => .zero,
    below_of _ _ hu, positive_of _ hp⟩

/-- The value claim: the reference's result is the kernel's. -/
theorem algebraic : Cert.algebraic_KernelIdeal_ReferenceIdeal_pre_finite_inputs_no_bias := by
  intro m g m' g' hpre hag
  refine ⟨fun c => Cert.KernelIdealValue.final m c, Cert.KernelIdealValue.run_values m g, ?_⟩
  refine (θ_run _ _ _).mono (fun r h c => ⟨?_, (h.1 c).2⟩) (Cert.ReferenceRun.run_main m' g')
  obtain ⟨e0, e1, e2, e3, e4, e5, e6, e7, e8, e9⟩ := hag c
  obtain ⟨z1, z2, z3, hg⟩ := good hpre c
  refine (h.1 c).1.trans ?_
  rw [e0, e2, e3, e4, e5, e6, e7, e8, e9]
  funext j
  rw [z1, z2, z3]
  idx_vars j
  exact (reference_at hg _ _).trans (Cert.KernelIdealValue.final_at m c _ _).symm

theorem claim : Cert.Claim :=
  ⟨Cert.Kernel.Gen.facts, Cert.KernelIdeal.Gen.facts, Cert.ReferenceIdeal.Gen.facts, Cert.Pre_finite_inputs_no_bias.Gen.facts,
    Cert.KernelFrame.quiescent, Cert.KernelIdealValue.quiescent, fun m g _ => Cert.KernelIdealValue.quiescent m g trivial,
    Cert.ReferenceRun.quiescent, fun m g _ => Cert.ReferenceRun.quiescent m g trivial, trivial, algebraic⟩

end Cert.Proof

end
